-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  bcast_S_S64x4096 : S_.BroadcastsInDim S64x4096 (![] : Fin 0 → Fin S64x4096.rank)

variable [Facts]

def fn {F : FTy → Type} [FloatOps F] (main_arg0 : FVec F S4x4096x4096 .f32) (main_arg1 : FVec F S64x4096 .f32) : IVec S4x4096x4096 1 × IVec S64x4096 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S8x16384 : Shape := ⟨2, ![8, 16384]⟩
abbrev S1x1 : Shape := ⟨2, ![1, 1]⟩
abbrev S16384x8 : Shape := ⟨2, ![16384, 8]⟩
abbrev S_ : Shape := ⟨0, ![]⟩
abbrev S1024x4096 : Shape := ⟨2, ![1024, 4096]⟩
abbrev S8x1024 : Shape := ⟨2, ![8, 1024]⟩
abbrev S64x1 : Shape := ⟨2, ![64, 1]⟩
abbrev S64x1024 : Shape := ⟨2, ![64, 1024]⟩
abbrev S1024 : Shape := ⟨1, ![1024]⟩
abbrev S1x1024 : Shape := ⟨2, ![1, 1024]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S8x16384, .f32⟩
  | .hbm, ⟨4, _⟩ => ⟨S8x16384, .i32⟩
  | .hbm, ⟨5, _⟩ => ⟨S1x1, .f32⟩
  | .hbm, ⟨6, _⟩ => ⟨S16384x8, .f32⟩
  | .hbm, ⟨7, _⟩ => ⟨S16384x8, .i32⟩
  | .hbm, ⟨8, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S8x1024, .f32⟩
  | .local _ .vmem, ⟨4, _⟩ => ⟨S8x1024, .f32⟩
  | .local _ .vmem, ⟨5, _⟩ => ⟨S8x1024, .i32⟩
  | .local _ .vmem, ⟨6, _⟩ => ⟨S8x1024, .i32⟩
  | .local _ .vmem, ⟨7, _⟩ => ⟨S1x1, .f32⟩
  | .local _ .vmem, ⟨8, _⟩ => ⟨S64x1, .f32⟩
  | .local _ .vmem, ⟨9, _⟩ => ⟨S64x1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v145 : BitVec 1 := Scalar.cmpi .eq arg0 c15_i32
  let v146 : BitVec 32 := Scalar.extui v145
  let c0_i32_56 : BitVec 32 := 0#32
  let v147 : BitVec 1 := Scalar.cmpi .ne v146 c0_i32_56
  v147

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x4096x4096 : Shape := ⟨3, ![4, 4096, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S131072 : Shape := ⟨1, ![131072]⟩
abbrev S131072x1 : Shape := ⟨2, ![131072, 1]⟩
abbrev S1x64 : Shape := ⟨2, ![1, 64]⟩
abbrev S131072x64 : Shape := ⟨2, ![131072, 64]⟩
abbrev S64 : Shape := ⟨1, ![64]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x8, .f32⟩
  | .hbm, ⟨28, _⟩ => ⟨S16384x8, .f32⟩
  | .hbm, ⟨29, _⟩ => ⟨S131072, .i32⟩
  | .hbm, ⟨30, _⟩ => ⟨S131072x1, .i32⟩
  | .hbm, ⟨31, _⟩ => ⟨S1x64, .i32⟩
  | .hbm, ⟨32, _⟩ => ⟨S131072x64, .i32⟩
  | .hbm, ⟨33, _⟩ => ⟨S131072x64, .i32⟩
  | .hbm, ⟨34, _⟩ => ⟨S131072x64, .i1⟩
  | .hbm, ⟨35, _⟩ => ⟨S131072x64, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Proof.Pick.lean ====
/- The top positions of one column of 64 scores. The stable descending sort of a column puts at place `r` the position
   `pick s r`; the repeated rounds "take the maximum, take the first position that reaches it, overwrite it by −1"
   select exactly those positions in that order, as long as no score is negative. -/
module

public import Idealize.ShloMosaic.Lib.Pointwise
public import Idealize.ShloMosaic.Lib.SortFacts
public import Idealize.ShloMosaic.Lib.SortPrefix

@[expose] public section

noncomputable section

namespace Cert.Route

open Idealize.ShloMosaic

/-- Position `k` sorts strictly before position `k'`: its score is the greater one. -/
def greater (s : Fin 64 → EReal) (k k' : Fin 64) : Bool := decide (s k' < s k)

/-- The same with ties broken by position, the lower one first. -/
def ahead (s : Fin 64 → EReal) (k k' : Fin 64) : Bool :=
  (fun a b : EReal => decide (b < a)) (s k) (s k') || (decide (s k = s k') && decide (k < k'))

/-- The position that the stable descending sort of the column puts at place `r`. -/
def pick (s : Fin 64 → EReal) (r : Fin 64) : Fin 64 := sortedFrom (greater s) r

variable (s : Fin 64 → EReal)

/-- `ahead` is a strict total order of the positions. -/
theorem ahead_total : StrictTotalBefore (ahead s) :=
  StrictTotalBefore.of_key_then_position (fun a b : EReal => decide (b < a)) s (fun a => by simp)
    (fun a b c h h' => by simp only [decide_eq_true_eq] at *; exact lt_trans h' h)
    (fun a b => by simp only [decide_eq_true_eq]; rcases lt_trichotomy a b with h | h | h <;> simp [h])

/-- On positions listed upwards the stable sort breaks ties by position. -/
theorem stableSort_greater (l : List (Fin 64)) (hl : l.Pairwise (· < ·)) :
    stableSort (greater s) l = stableSort (ahead s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [greater, ahead, not_lt.mpr hab.le]

/-- Two relations that list the positions alike put the same position at each place. -/
theorem sortedFrom_of_positions {n : ℕ} (R R' : Fin n → Fin n → Bool) (h : sortPositions n R = sortPositions n R')
    (k : Fin n) : sortedFrom R k = sortedFrom R' k := by
  unfold sortedFrom
  rw [List.get_of_eq h]
  rfl

/-- The sort by score is the sort by score and then position. -/
theorem pick_eq (r : Fin 64) : pick s r = sortedFrom (ahead s) r :=
  sortedFrom_of_positions _ _ (stableSort_greater s _ (List.pairwise_lt_finRange 64)) r

/-- Different places hold different positions. -/
theorem pick_injective : Function.Injective (pick s) := sortedFrom_injective _

/-- Every position has a place. -/
theorem pick_surjective : Function.Surjective (pick s) := sortedFrom_surjective _

/-- A later place holds no greater score; and where the scores agree it holds a later position. -/
theorem pick_order {i j : Fin 64} (h : i < j) :
    s (pick s j) ≤ s (pick s i) ∧ (s (pick s j) = s (pick s i) → pick s i < pick s j) := by
  have hB := ahead_total s
  have h1 := sortedFrom_noInversion (ahead s) (ahead s) (fun a b h => hB.asymm a b h) (fun _ _ h => h) hB.negTrans i j h
  rw [← pick_eq, ← pick_eq] at h1
  simp only [ahead, Bool.or_eq_false_iff, decide_eq_false_iff_not, not_lt, Bool.and_eq_false_iff] at h1
  refine ⟨h1.1, fun e => ?_⟩
  rcases h1.2 with h2 | h2
  · exact absurd e h2
  · exact lt_of_le_of_ne h2 fun e' => absurd (pick_injective s e') (ne_of_lt h)

/-- The column after `r` rounds: the picked positions hold −1, the others their score. -/
def left (r : ℕ) (e : Fin 64) : EReal := if ∃ k : Fin 64, k.val < r ∧ pick s k = e then -1 else s e

/-- Before the first round the column holds the scores. -/
theorem left_zero : left s 0 = s := by
  funext e
  simp [left]

/-- A position picked before round `r` holds −1. -/
theorem left_pick_lt (r : ℕ) (k : Fin 64) (h : k.val < r) : left s r (pick s k) = -1 :=
  if_pos ⟨k, h, rfl⟩

/-- A position not yet picked holds its score. -/
theorem left_pick_ge (r : ℕ) (k : Fin 64) (h : r ≤ k.val) : left s r (pick s k) = s (pick s k) :=
  if_neg fun ⟨k', h', e⟩ => by rw [pick_injective s e] at h'; omega

/-- One more round overwrites the position picked at place `r`. -/
theorem left_succ (r : Fin 64) (e : Fin 64) :
    left s (r.val + 1) e = if e = pick s r then -1 else left s r.val e := by
  obtain ⟨k, rfl⟩ := pick_surjective s e
  by_cases h : k = r
  · subst h; rw [if_pos rfl, left_pick_lt s _ _ (Nat.lt_succ_self _)]
  · rw [if_neg fun e => h (pick_injective s e)]
    have h' : k.val ≠ r.val := fun e => h (Fin.ext e)
    by_cases hk : k.val < r.val
    · rw [left_pick_lt s _ _ hk, left_pick_lt s _ _ (by omega)]
    · rw [left_pick_ge s _ _ (by omega), left_pick_ge s _ _ (by omega)]

/-- −1 is below 0. -/
theorem neg_one_lt_zero : (-1 : EReal) < 0 := by
  have : ((-1 : ℝ) : EReal) < ((0 : ℝ) : EReal) := EReal.coe_lt_coe_iff.mpr (by norm_num)
  simpa using this

variable (hs : ∀ e, 0 ≤ s e)
include hs

/-- Negative after `r` rounds are exactly the positions picked. -/
theorem left_neg (r : ℕ) (e : Fin 64) : left s r e < 0 ↔ ∃ k : Fin 64, k.val < r ∧ pick s k = e := by
  unfold left
  split
  · rename_i h; exact ⟨fun _ => h, fun _ => neg_one_lt_zero⟩
  · rename_i h; exact ⟨fun h' => absurd h' (not_lt.mpr (hs e)), fun h' => absurd h' h⟩

/-- The maximum of the column in round `r` is the score at place `r` of the sort. -/
theorem max_left (r : Fin 64) : Finset.fold max ⊥ (left s r.val) Finset.univ = s (pick s r) := by
  refine le_antisymm (Finset.fold_max_le _ |>.mpr ⟨bot_le, fun e _ => ?_⟩) ?_
  · obtain ⟨k, rfl⟩ := pick_surjective s e
    by_cases hk : k.val < r.val
    · rw [left_pick_lt s _ _ hk]; exact neg_one_lt_zero.le.trans (hs _)
    · rw [left_pick_ge s _ _ (by omega)]
      rcases Nat.lt_or_eq_of_le (Nat.le_of_not_lt hk) with h | h
      · exact (pick_order s h).1
      · rw [Fin.ext h]
  · exact Finset.le_fold_max _ |>.mpr (.inr ⟨pick s r, Finset.mem_univ _, (left_pick_ge s _ _ le_rfl).ge⟩)

/-- The positions that reach the maximum in round `r` are none below the one at place `r`, which does. -/
theorem first_left (r : Fin 64) (e : Fin 64) (h : left s r.val e = s (pick s r)) : pick s r ≤ e := by
  obtain ⟨k, rfl⟩ := pick_surjective s e
  by_cases hk : k.val < r.val
  · rw [left_pick_lt s _ _ hk] at h
    exact absurd (hs (pick s r)) (not_le.mpr (h ▸ neg_one_lt_zero))
  · rw [left_pick_ge s _ _ (by omega)] at h
    rcases Nat.lt_or_eq_of_le (Nat.le_of_not_lt hk) with h' | h'
    · exact ((pick_order s h').2 h).le
    · rw [Fin.ext h']

omit hs in
/-- A signed minimum of words over 64 positions is `m` when `m` is among them and none reads below it. -/
theorem fold_minsi_eq (f : Fin 64 → BitVec 32) (b m : BitVec 32) (p : Fin 64) (hp : f p = m)
    (hb : m.toInt ≤ b.toInt) (hf : ∀ e, m.toInt ≤ (f e).toInt) : Finset.fold IntOp.minsi b f Finset.univ = m := by
  have hom : ∀ x y : BitVec 32, (IntOp.minsi x y).toInt = min x.toInt y.toInt := fun x y => by
    simp only [IntOp.minsi, BitVec.slt_iff_toInt_lt]
    split <;> omega
  apply BitVec.eq_of_toInt_eq
  rw [← Finset.fold_hom (op' := min) hom]
  refine le_antisymm (Finset.fold_min_le _ |>.mpr (.inr ⟨p, Finset.mem_univ _, by rw [hp]⟩))
    (Finset.le_fold_min _ |>.mpr ⟨hb, fun e _ => hf e⟩)

omit hs in
/-- A position's word reads back as the position. -/
theorem toInt_pos (e : Fin 64) : (BitVec.ofNat 32 e.val).toInt = (e.val : Int) := by
  have := e.isLt
  rw [BitVec.toInt_eq_toNat_of_lt] <;> rw [BitVec.toNat_ofNat] <;> omega

/-- The first position that reaches the maximum of round `r` is the one at place `r` of the sort. -/
theorem argmax_left (r : Fin 64) :
    Finset.fold IntOp.minsi (2147483647#32)
        (fun e : Fin 64 => if left s r.val e = s (pick s r) then BitVec.ofNat 32 e.val else 64#32) Finset.univ
      = BitVec.ofNat 32 (pick s r).val := by
  have hlt := (pick s r).isLt
  refine fold_minsi_eq _ _ _ (pick s r) (if_pos (left_pick_ge s _ _ le_rfl)) ?_ fun e => ?_
  · rw [toInt_pos]
    have : (2147483647#32).toInt = 2147483647 := by decide
    omega
  · rw [toInt_pos]
    split
    · rename_i h
      rw [toInt_pos]
      exact_mod_cast first_left s hs r e h
    · have : (64#32).toInt = 64 := by decide
      omega

omit hs in
/-- Two positions with one word are one. -/
theorem word_inj (a b : Fin 64) : BitVec.ofNat 32 a.val = BitVec.ofNat 32 b.val ↔ a = b := by
  constructor
  · intro h
    have := congrArg BitVec.toInt h
    rw [toInt_pos, toInt_pos] at this
    exact Fin.ext (by exact_mod_cast this)
  · rintro rfl; rfl

omit hs in
/-- The picks of the first eight places name each position at most once: their one-hot sum is 1 at a picked one, else 0. -/
theorem sum_hot (e : Fin 64) :
    (∑ k : Fin 8, if pick s (k.castLE (by decide)) = e then (1 : EReal) else 0)
      = if ∃ k : Fin 64, k.val < 8 ∧ pick s k = e then 1 else 0 := by
  split
  · rename_i h
    obtain ⟨k, hk, rfl⟩ := h
    rw [Finset.sum_eq_single (⟨k.val, hk⟩ : Fin 8)]
    · exact if_pos rfl
    · intro j _ hj
      exact if_neg fun e => hj (Fin.ext (by simpa using congrArg Fin.val (pick_injective s e)))
    · intro h; exact absurd (Finset.mem_univ _) h
  · rename_i h
    exact Finset.sum_eq_zero fun k _ => if_neg fun e => h ⟨_, k.isLt, e⟩

end Cert.Route

end
-- ==== Proof.Router.lean ====
/- The router as plain mathematics over the extended reals: a token's 64 logits, their softmax, the eight greatest
   scores with their experts, the normalised weights. -/
module

public import proofs.«01_k».proof.Proof.Pick

@[expose] public section

noncomputable section

namespace Cert.Route

open Idealize.ShloMosaic

/-- The logits of a token whose row is `x`, one per row of the router's matrix. -/
def logit (w : Fin 64 → Fin 4096 → EReal) (x : Fin 4096 → EReal) (e : Fin 64) : EReal := ∑ d, w e d * x d

/-- The greatest logit. -/
def peak (l : Fin 64 → EReal) : EReal := Finset.fold max ⊥ l Finset.univ

/-- The sum of the shifted exponentials. -/
def mass (l : Fin 64 → EReal) : EReal := ∑ e, Ideal.exp (l e - peak l)

/-- The softmax score of an expert. -/
def score (l : Fin 64 → EReal) (e : Fin 64) : EReal := Ideal.exp (l e - peak l) * Ideal.div 1 (mass l)

/-- The expert at place `k` of the first eight. -/
def chosen (s : Fin 64 → EReal) (k : Fin 8) : Fin 64 := pick s (k.castLE (by decide))

/-- The sum of the eight selected scores, with the small constant added. -/
def denom (s : Fin 64 → EReal) : EReal := ∑ k, s (chosen s k) + Ideal.ofBits .f32 0x3089705F#32

/-- The weight of the expert at place `k`. -/
def weight (s : Fin 64 → EReal) (k : Fin 8) : EReal := s (chosen s k) * Ideal.div 1 (denom s)

/-- Whether an expert is among the eight, as 1 or 0. -/
def hit (s : Fin 64 → EReal) (e : Fin 64) : EReal := ∑ k : Fin 8, if chosen s k = e then 1 else 0

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- The reciprocal of a nonnegative number is not negative. -/
theorem one_div_nonneg (y : EReal) (h : 0 ≤ y) : 0 ≤ Ideal.div 1 y := by
  unfold Ideal.div
  split
  · rw [if_pos zero_lt_one]; exact le_top
  · rw [one_mul]; exact EReal.inv_nonneg_of_nonneg h

/-- The sum of exponentials is not negative. -/
theorem mass_nonneg (l : Fin 64 → EReal) : 0 ≤ mass l := Finset.sum_nonneg fun _ _ => exp_nonneg _

/-- No score is negative. -/
theorem score_nonneg (l : Fin 64 → EReal) (e : Fin 64) : 0 ≤ score l e :=
  mul_nonneg (exp_nonneg _) (one_div_nonneg _ (mass_nonneg l))

/-- The word of negative infinity denotes the least extended real. -/
theorem word_bot : Ideal.ofBits .f32 0xFF800000#32 = ⊥ := by
  simp [Ideal.ofBits, Ideal.ieee]

/-- The word of −1 denotes −1. -/
theorem word_neg_one : Ideal.ofBits .f32 0xBF800000#32 = -1 := by
  have h : Ideal.ofBits .f32 0xBF800000#32 = (((-1 : ℝ) * (2 ^ 23 + (0 : ℕ) : ℕ) * (2 : ℝ) ^ (-23 : ℤ) : ℝ) : EReal) := rfl
  rw [h]
  norm_num

end Cert.Route

end
-- ==== Proof.Sums.lean ====
/- A sum over `m * n` positions, read as `m` runs of `n`. -/
module

public import Idealize.ShloMosaic.Lib.Pointwise

@[expose] public section

namespace Cert.Route

/-- A sum over `m * n` positions is the sum over the `m` runs of the sums over the `n` positions of each. -/
theorem sum_runs {N m n : ℕ} (hN : N = m * n) (g : Fin N → EReal) (f : Fin m → Fin n → EReal)
    (hg : ∀ (a : Fin m) (b : Fin n) (h : n * a.val + b.val < N), g ⟨n * a.val + b.val, h⟩ = f a b) :
    ∑ i, g i = ∑ a, ∑ b, f a b := by
  subst hN
  rw [← Equiv.sum_comp finProdFinEquiv g, Fintype.sum_prod_type]
  refine Finset.sum_congr rfl fun a _ => Finset.sum_congr rfl fun b _ => ?_
  have hv : finProdFinEquiv (a, b) = ⟨n * a.val + b.val, by have := (finProdFinEquiv (a, b)).isLt; simp [finProdFinEquiv] at this; omega⟩ :=
    Fin.ext (by simp [finProdFinEquiv]; omega)
  rw [hv]
  exact hg a b _

end Cert.Route
-- ==== Proof.Ref.lean ====
/- The reference read at an index: its softmax scores, its top-k, its weights and its auxiliary loss, as the plain
   mathematics of Router.lean. -/
module

public import proofs.«01_k».proof.Proof.Gen.ReferenceIdeal.Run
public import proofs.«01_k».proof.Proof.Router
public import proofs.«01_k».proof.Proof.Sums

@[expose] public section

set_option maxRecDepth 16384

noncomputable section

namespace Cert.ReferenceIdeal.Value

open Cert.ReferenceIdeal Cert.ReferenceIdeal.Gen Idealize.ShloMosaic Cert.Route

variable (x : FVec Ideal S16384x4096 .f32) (w : FVec Ideal S64x4096 .f32)

/-- The reference's logits. -/
def refLogits : FVec Ideal S16384x64 .f32 :=
  Host.dotGeneral dot_S16384x4096_S4096x64_S16384x64_1_0_0_1_n_n none x (transpose S4096x64 [1, 0] w transposes_S64x4096_S4096x64_1_0)

/-- The reference's softmax of any logits. -/
def refSoftmax (l : FVec Ideal S16384x64 .f32) : FVec Ideal S16384x64 .f32 :=
  have z : FVec Ideal S16384x64 .f32 := Host.exp (subf l (broadcastInDim S16384x64 ![0, 1] bcast_S16384x1_S16384x64_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x64_S16384_d1 h_S_)))))
  Host.divf z (broadcastInDim S16384x64 ![0, 1] bcast_S16384x1_S16384x64_0_1 (broadcastInDim S16384x1 ![0] bcast_S16384_S16384x1_0
    (Host.reduceAdd z (constant S_ .f32 0x00000000#32) reducesTo_S16384x64_S16384_d1 h_S_)))

/-- The reference's top eight of any scores. -/
def refTop (s : FVec Ideal S16384x64 .f32) : FVec Ideal S16384x8 .f32 × IVec S16384x8 32 :=
  Host.topK S16384x8 1 (FloatOps.cmpfTotal .gt) s sliceFits_S16384x64_S16384x8

/-- The reference's normalised weights of any selected scores. -/
def refWeights (v : FVec Ideal S16384x8 .f32) : FVec Ideal S16384x8 .f32 :=
  Host.divf v (broadcastInDim S16384x8 ![0, 1] bcast_S16384x1_S16384x8_0_1 (addf (broadcastInDim S16384x1 ![0] bcast_S16384_S16384x1_0
    (Host.reduceAdd v (constant S_ .f32 0x00000000#32) reducesTo_S16384x8_S16384_d1 h_S_)) (broadcastInDim S16384x1 ![] bcast_S_S16384x1 (constant S_ .f32 0x3089705F#32))))

/-- The reference's auxiliary loss of any scores and selected indices. -/
def refAux (s : FVec Ideal S16384x64 .f32) (idx : IVec S16384x8 32) : FVec Ideal S_ .f32 :=
  mulf (Host.reduceAdd (mulf (Host.divf (Host.reduceAdd s (constant S_ .f32 0x00000000#32) reducesTo_S16384x64_S64_d0 h_S_) (broadcastInDim S64 ![] bcast_S_S64 (constant S_ .f32 0x46800000#32)))
    (mulf (Host.divf (Host.reduceAdd (uitofp .f32 (cmpi .eq (broadcastInDim S131072x64 ![0, 1] bcast_S131072x1_S131072x64_0_1 (broadcastInDim S131072x1 ![0] bcast_S131072_S131072x1_0
        (shapeCast S131072 idx shapeCasts_S16384x8_S131072))) (broadcastInDim S131072x64 ![0, 1] bcast_S1x64_S131072x64_0_1 (iotaInDim S1x64 32 1))))
      (constant S_ .f32 0x00000000#32) reducesTo_S131072x64_S64_d0 h_S_) (broadcastInDim S64 ![] bcast_S_S64 (constant S_ .f32 0x48000000#32)))
    (broadcastInDim S64 ![] bcast_S_S64 (constant S_ .f32 0x42800000#32)))) (constant S_ .f32 0x00000000#32) reducesTo_S64_S_d0 h_S_) (constant S_ .f32 0x3C23D70A#32)

/-- The logits at a token and an expert. -/
theorem refLogits_at (t : Fin 16384) (e : Fin 64) :
    refLogits x w (ix2 t e) = logit (fun e d => w (ix2 e d)) (fun d => x (ix2 t d)) e := by
  pointwise [refLogits]
  exact Finset.sum_congr rfl fun d _ => mul_comm _ _

/-- The softmax at a token and an expert, where the sum of exponentials is not zero. -/
theorem refSoftmax_at (l : FVec Ideal S16384x64 .f32) (t : Fin 16384) (e : Fin 64) (h : mass (fun e => l (ix2 t e)) ≠ 0) :
    refSoftmax l (ix2 t e) = score (fun e => l (ix2 t e)) e := by
  have hd : refSoftmax l (ix2 t e) = Ideal.div (Ideal.exp (l (ix2 t e) - peak fun e => l (ix2 t e))) (mass fun e => l (ix2 t e)) := by
    pointwise [refSoftmax]
    have hm : max (Ideal.ofBits FTy.f32 4286578688#32) (Finset.fold max (Ideal.ofBits FTy.f32 4286578688#32) (fun x => l (ix2 t x)) Finset.univ)
        = peak fun x => l (ix2 t x) := by
      rw [word_bot, max_eq_right bot_le]
      rfl
    rw [hm]
    rfl
  rw [hd]
  simp only [score, Ideal.div, if_neg h, one_mul]

/-- An index of a matrix with its second coordinate replaced. -/
theorem along_row {m n : ℕ} (t : Fin m) (k k' : Fin n) : (ix2 t k).along 1 k' = ix2 t k' := by
  funext a
  fin_cases a <;> rfl

/-- The second coordinate of such an index. -/
theorem along_row_snd {m n : ℕ} (t : Fin m) (k k' : Fin n) (v : Fin n) (h : k' = v) :
    BitVec.ofNat 32 ((ix2 t k).along 1 k' 1).val = BitVec.ofNat 32 v.val := by
  subst h
  exact congrArg (fun i : (⟨2, ![m, n]⟩ : Shape).Idx => BitVec.ofNat 32 (i 1).val) (along_row t k k')

/-- The total comparison "greater" of extended reals. -/
theorem gt_bit (a b : EReal) : (FloatOps.cmpfTotal (F := Ideal) (φ := .f32) .gt a b == 1#1) = decide (b < a) := by
  rw [Ideal.cmpfTotal_def]
  by_cases h : b < a <;> simp [Ideal.cmp, CmpDirection.ordered, h]

/-- The sort of a row by that comparison lists the row's picks. -/
theorem row_sort (s : FVec Ideal S16384x64 .f32) (t : Fin 16384) (k r : Fin 64) :
    sortedFrom (fun a b : Fin 64 => FloatOps.cmpfTotal (F := Ideal) (φ := .f32) .gt (s ((ix2 t k).along 1 a)) (s ((ix2 t k).along 1 b)) == 1#1) r
      = pick (fun e => s (ix2 t e)) r := by
  unfold pick
  refine congrArg (fun R => sortedFrom R r) (funext fun a => funext fun b => ?_)
  rw [along_row, along_row]
  exact gt_bit _ _

/-- The chosen expert at a place is the pick at that place. -/
theorem chosen_eq (s : Fin 64 → EReal) (k : Fin 8) : chosen s k = pick s ⟨k.val, by omega⟩ := rfl

/-- The top eight at a token: score and expert at each place of its sort. -/
theorem refTop_at (s : FVec Ideal S16384x64 .f32) (t : Fin 16384) (k : Fin 8) :
    (refTop s).1 (ix2 t k) = s (ix2 t (chosen (fun e => s (ix2 t e)) k))
    ∧ (refTop s).2 (ix2 t k) = BitVec.ofNat 32 (chosen (fun e => s (ix2 t e)) k).val := by
  constructor
  · pointwise [refTop, Host.topK, Host.sort2]
    rw [chosen_eq, ← row_sort s t ⟨k.val, by omega⟩]
    exact congrArg s (along_row _ _ _)
  · pointwise [refTop, Host.topK, Host.sort2]
    rw [chosen_eq, ← row_sort s t ⟨k.val, by omega⟩]
    exact along_row_snd (m := 16384) (n := 64) t ⟨k.val, by omega⟩ _ _ rfl

/-- The weights at a token and a place. -/
theorem refWeights_at (v : FVec Ideal S16384x8 .f32) (t : Fin 16384) (k : Fin 8) :
    refWeights v (ix2 t k) = Ideal.div (v (ix2 t k)) (∑ j, v (ix2 t j) + Ideal.ofBits .f32 0x3089705F#32) := by
  pointwise [refWeights]

/-- The equality bit of two expert words, converted to a float. -/
theorem eq_bit (a b : Fin 64) :
    FloatOps.uitofp (F := Ideal) .f32 (IntOp.cmpi .eq (BitVec.ofNat 32 a.val) (BitVec.ofNat 32 b.val)) = if a = b then 1 else 0 := by
  have hb : IntOp.cmpi .eq (BitVec.ofNat 32 a.val) (BitVec.ofNat 32 b.val) = BitVec.ofBool (decide (a = b)) := by
    unfold IntOp.cmpi
    exact congrArg BitVec.ofBool (Bool.eq_iff_iff.mpr (by rw [beq_iff_eq, decide_eq_true_eq]; exact word_inj a b))
  rw [hb]
  by_cases h : a = b
  · rw [if_pos h, decide_eq_true h]
    show (((BitVec.ofBool true).toNat : ℝ) : EReal) = 1
    rw [show (BitVec.ofBool true).toNat = 1 by decide]
    norm_num
  · rw [if_neg h, decide_eq_false h]
    show (((BitVec.ofBool false).toNat : ℝ) : EReal) = 0
    rw [show (BitVec.ofBool false).toNat = 0 by decide]
    norm_num

/-- How often the selected indices name an expert. -/
theorem count_at (idx : IVec S16384x8 32) (ch : Fin 16384 → Fin 8 → Fin 64)
    (h : ∀ t k, idx (ix2 t k) = BitVec.ofNat 32 (ch t k).val) (e : Fin 64) :
    (∑ n : Fin 131072, FloatOps.uitofp (F := Ideal) .f32
      (IntOp.cmpi .eq (idx (ix2 (⟨n.val / 8, by omega⟩ : Fin 16384) (⟨n.val % 8, by omega⟩ : Fin 8))) (BitVec.ofNat 32 e.val)))
      = ∑ t, ∑ k, if ch t k = e then 1 else 0 := by
  refine sum_runs (m := 16384) (n := 8) rfl _ _ fun t k hn => ?_
  rw [← eq_bit, ← h]
  have h1 : (8 * t.val + k.val) / 8 = t.val := by omega
  have h2 : (8 * t.val + k.val) % 8 = k.val := by omega
  simp only [h1, h2, Fin.eta]

/-- The auxiliary loss, from the scores of each token and the experts chosen for it. -/
theorem refAux_at (s : FVec Ideal S16384x64 .f32) (idx : IVec S16384x8 32) (ch : Fin 16384 → Fin 8 → Fin 64)
    (h : ∀ t k, idx (ix2 t k) = BitVec.ofNat 32 (ch t k).val) :
    refAux s idx ix0 = (∑ e, Ideal.div (∑ t, s (ix2 t e)) (Ideal.ofBits .f32 0x46800000#32)
      * (Ideal.div (∑ t, ∑ k, if ch t k = e then 1 else 0) (Ideal.ofBits .f32 0x48000000#32) * Ideal.ofBits .f32 0x42800000#32))
      * Ideal.ofBits .f32 0x3C23D70A#32 := by
  pointwise [refAux]
  refine Ideal.mul_congr (Finset.sum_congr rfl fun e _ => ?_) rfl
  have hc := count_at idx ch h e
  refine Ideal.mul_congr rfl (Ideal.mul_congr ?_ rfl)
  rw [← hc]

end Cert.ReferenceIdeal.Value

end
-- ==== Proof.Stores.lean ====
/- What the kernel's body leaves in its buffers at one grid point, as the payloads of the blocks it reads: the weights'
   and indices' blocks, the two running sums, and at the last point the auxiliary loss. -/
module

public import proofs.«01_k».proof.Proof.Gen.KernelIdeal.Frame
public import Idealize.ShloMosaic.Lib.Pipeline.Value

@[expose] public section

set_option maxRecDepth 16384

noncomputable section

namespace Cert.KernelIdeal.Gen

open Idealize.ShloMosaic Idealize.ShloMosaic.TcCoe Idealize.SL Idealize.SL.Sem

variable {F : FTy → Type} [FloatOps F]

/-- The expert number at each entry of a block of scores. -/
abbrev ids : IVec S64x1024 32 := iota .tc S64x1024 32 [0] iota_S64x1024_d0_w32

/-- The eight selected scores of each token of a block. -/
abbrev topBlock (w : Vec F S64x4096 .f32) (x : Vec F S1024x4096 .f32) : FVec F S8x1024 .f32 :=
  k0_pay34 ids (k0_pay9 w x) (k0_pay12 (k0_pay11 w x)) (k0_pay15 ids (k0_pay11 w x)) (k0_pay18 ids (k0_pay11 w x))
    (k0_pay20 ids (k0_pay11 w x)) (k0_pay21 ids (k0_pay11 w x)) (k0_pay23 ids (k0_pay11 w x))

/-- Their sum plus the small constant. -/
abbrev denBlock (w : Vec F S64x4096 .f32) (x : Vec F S1024x4096 .f32) : FVec F S1x1024 .f32 :=
  k0_pay35 ids (k0_pay9 w x) (k0_pay12 (k0_pay11 w x)) (k0_pay15 ids (k0_pay11 w x)) (k0_pay18 ids (k0_pay11 w x))
    (k0_pay20 ids (k0_pay11 w x)) (k0_pay21 ids (k0_pay11 w x)) (k0_pay23 ids (k0_pay11 w x))

/-- The block of weights stored. -/
abbrev twBlock (w : Vec F S64x4096 .f32) (x : Vec F S1024x4096 .f32) : FVec F S8x1024 .f32 :=
  k0_pay1 (topBlock w x) (denBlock w x) (Scalar.ofBits .f32 0x3F800000#32)

/-- The block of indices stored. -/
abbrev tiBlock (w : Vec F S64x4096 .f32) (x : Vec F S1024x4096 .f32) : IVec S8x1024 32 :=
  k0_pay2 (k0_pay10 w x) (k0_pay13 ids (k0_pay11 w x)) (k0_pay16 ids (k0_pay11 w x)) (k0_pay19 ids (k0_pay11 w x))
    (k0_pay22 ids (k0_pay11 w x)) (k0_pay26 ids (k0_pay20 ids (k0_pay11 w x)) (k0_pay23 ids (k0_pay11 w x)))
    (k0_pay29 ids (k0_pay20 ids (k0_pay11 w x)) (k0_pay23 ids (k0_pay11 w x)))
    (k0_pay32 ids (k0_pay20 ids (k0_pay11 w x)) (k0_pay23 ids (k0_pay11 w x)))

/-- The scores with the eight selected of each token overwritten. -/
abbrev doneBlock (w : Vec F S64x4096 .f32) (x : Vec F S1024x4096 .f32) : FVec F S64x1024 .f32 :=
  k0_pay33 ids (k0_pay20 ids (k0_pay11 w x)) (k0_pay23 ids (k0_pay11 w x))

/-- The zero offset of a whole-block access. -/
theorem off_zero : (![0, 0] : Fin 2 → Nat) = fun _ => 0 := by funext i; fin_cases i <;> rfl

variable (c : Dev nD) (i : grid0.Coords) (a1 : Memref sig .tc .vmem S1024x4096 .f32) (h1 : a1.IsWhole) (a2 : Memref sig .tc .vmem S64x4096 .f32) (h2 : a2.IsWhole)
  (a3 : Memref sig .tc .vmem S8x1024 .f32) (h3 : a3.IsWhole) (a4 : Memref sig .tc .vmem S8x1024 .i32) (h4 : a4.IsWhole) (a5 : Memref sig .tc .vmem S1x1 .f32) (h5 : a5.IsWhole)
  (a6 : Memref sig .tc .vmem S64x1 .f32) (h6 : a6.IsWhole) (a7 : Memref sig .tc .vmem S64x1 .f32) (h7 : a7.IsWhole)
  (x : Vec F S1024x4096 .f32) (w : Vec F S64x4096 .f32) (p q : Vec F S64x1 .f32)

/-- The first point stores its blocks and starts the running sums from zero. -/
theorem stores_A (g0 : cond0_0 i) (g1 : ¬cond0_1 i) :
    out0_A_2 c i a1 h1 a2 h2 a3 h3 a4 h4 a5 h5 a6 h6 a7 h7 g0 g1 x w = twBlock w x
    ∧ out0_A_3 c i a1 h1 a2 h2 a3 h3 a4 h4 a5 h5 a6 h6 a7 h7 g0 g1 x w = tiBlock w x
    ∧ sout0_A_0 c i a1 h1 a2 h2 a3 h3 a4 h4 a5 h5 a6 h6 a7 h7 g0 g1 x w = k0_pay8 w x k0_pay5
    ∧ sout0_A_1 c i a1 h1 a2 h2 a3 h3 a4 h4 a5 h5 a6 h6 a7 h7 g0 g1 x w = k0_pay3 (doneBlock w x) k0_pay6 := by
  refine ⟨?_, ?_, ?_, ?_⟩
  on_goal 1 => unfold out0_A_2; rw [View.read_writes_eq_canon _ _ _ (cover0_A_2 c i a1 h1 a2 h2 a3 h3 a4 h4 a5 h5 a6 h6 a7 h7 g0 g1 x w)]
  on_goal 2 => unfold out0_A_3; rw [View.read_writes_eq_canon _ _ _ (cover0_A_3 c i a1 h1 a2 h2 a3 h3 a4 h4 a5 h5 a6 h6 a7 h7 g0 g1 x w)]
  on_goal 3 => unfold sout0_A_0; rw [View.read_writes_eq_canon _ _ _ (scover0_A_0 c i a1 h1 a2 h2 a3 h3 a4 h4 a5 h5 a6 h6 a7 h7 g0 g1 x w)]
  on_goal 4 => unfold sout0_A_1; rw [View.read_writes_eq_canon _ _ _ (scover0_A_1 c i a1 h1 a2 h2 a3 h3 a4 h4 a5 h5 a6 h6 a7 h7 g0 g1 x w)]
  all_goals
    unfold kernelRun0_A; dsimp only; sl_unfold_words
    simp only [View.canon_cons_unit_zero (S := S8x1024) off_zero, View.canon_cons_unit_zero (S := S64x1) off_zero, View.canon_cons_unit_zero (S := S1x1) off_zero, View.readCov_cons_toLoadRect, View.readAt_eq_ld, h1.read_unread, h2.read_unread, h6.read_unread, h7.read_unread,
      View.ld_unit_zero (S := S1024x4096) off_zero, View.ld_unit_zero (S := S64x4096) off_zero, View.ld_unit_zero (S := S64x1) off_zero, shapeCast_self]

/-- A middle point stores its blocks and adds to the running sums. -/
theorem stores_B (g0 : ¬cond0_0 i) (g1 : ¬cond0_1 i) :
    out0_B_2 c i a1 h1 a2 h2 a3 h3 a4 h4 a5 h5 a6 h6 a7 h7 g0 g1 x w p q = twBlock w x
    ∧ out0_B_3 c i a1 h1 a2 h2 a3 h3 a4 h4 a5 h5 a6 h6 a7 h7 g0 g1 x w p q = tiBlock w x
    ∧ sout0_B_0 c i a1 h1 a2 h2 a3 h3 a4 h4 a5 h5 a6 h6 a7 h7 g0 g1 x w p q = k0_pay8 w x p
    ∧ sout0_B_1 c i a1 h1 a2 h2 a3 h3 a4 h4 a5 h5 a6 h6 a7 h7 g0 g1 x w p q = k0_pay3 (doneBlock w x) q := by
  refine ⟨?_, ?_, ?_, ?_⟩
  on_goal 1 => unfold out0_B_2; rw [View.read_writes_eq_canon _ _ _ (cover0_B_2 c i a1 h1 a2 h2 a3 h3 a4 h4 a5 h5 a6 h6 a7 h7 g0 g1 x w p q)]
  on_goal 2 => unfold out0_B_3; rw [View.read_writes_eq_canon _ _ _ (cover0_B_3 c i a1 h1 a2 h2 a3 h3 a4 h4 a5 h5 a6 h6 a7 h7 g0 g1 x w p q)]
  on_goal 3 => unfold sout0_B_0; rw [View.read_writes_eq_canon _ _ _ (scover0_B_0 c i a1 h1 a2 h2 a3 h3 a4 h4 a5 h5 a6 h6 a7 h7 g0 g1 x w p q)]
  on_goal 4 => unfold sout0_B_1; rw [View.read_writes_eq_canon _ _ _ (scover0_B_1 c i a1 h1 a2 h2 a3 h3 a4 h4 a5 h5 a6 h6 a7 h7 g0 g1 x w p q)]
  all_goals
    unfold kernelRun0_B; dsimp only; sl_unfold_words
    simp only [View.canon_cons_unit_zero (S := S8x1024) off_zero, View.canon_cons_unit_zero (S := S64x1) off_zero, View.canon_cons_unit_zero (S := S1x1) off_zero, View.readCov_cons_toLoadRect, View.readAt_eq_ld, h1.read_unread, h2.read_unread, h6.read_unread, h7.read_unread,
      View.ld_unit_zero (S := S1024x4096) off_zero, View.ld_unit_zero (S := S64x4096) off_zero, View.ld_unit_zero (S := S64x1) off_zero, shapeCast_self]

/-- The last point does the same and stores the auxiliary loss of the finished sums. -/
theorem stores_C (g0 : ¬cond0_0 i) (g1 : cond0_1 i) :
    out0_C_2 c i a1 h1 a2 h2 a3 h3 a4 h4 a5 h5 a6 h6 a7 h7 g0 g1 x w p q = twBlock w x
    ∧ out0_C_3 c i a1 h1 a2 h2 a3 h3 a4 h4 a5 h5 a6 h6 a7 h7 g0 g1 x w p q = tiBlock w x
    ∧ out0_C_4 c i a1 h1 a2 h2 a3 h3 a4 h4 a5 h5 a6 h6 a7 h7 g0 g1 x w p q = k0_pay4 (k0_pay8 w x p) (k0_pay3 (doneBlock w x) q)
    ∧ sout0_C_0 c i a1 h1 a2 h2 a3 h3 a4 h4 a5 h5 a6 h6 a7 h7 g0 g1 x w p q = k0_pay8 w x p
    ∧ sout0_C_1 c i a1 h1 a2 h2 a3 h3 a4 h4 a5 h5 a6 h6 a7 h7 g0 g1 x w p q = k0_pay3 (doneBlock w x) q := by
  refine ⟨?_, ?_, ?_, ?_, ?_⟩
  on_goal 1 => unfold out0_C_2; rw [View.read_writes_eq_canon _ _ _ (cover0_C_2 c i a1 h1 a2 h2 a3 h3 a4 h4 a5 h5 a6 h6 a7 h7 g0 g1 x w p q)]
  on_goal 2 => unfold out0_C_3; rw [View.read_writes_eq_canon _ _ _ (cover0_C_3 c i a1 h1 a2 h2 a3 h3 a4 h4 a5 h5 a6 h6 a7 h7 g0 g1 x w p q)]
  on_goal 3 => unfold out0_C_4; rw [View.read_writes_eq_canon _ _ _ (cover0_C_4 c i a1 h1 a2 h2 a3 h3 a4 h4 a5 h5 a6 h6 a7 h7 g0 g1 x w p q)]
  on_goal 4 => unfold sout0_C_0; rw [View.read_writes_eq_canon _ _ _ (scover0_C_0 c i a1 h1 a2 h2 a3 h3 a4 h4 a5 h5 a6 h6 a7 h7 g0 g1 x w p q)]
  on_goal 5 => unfold sout0_C_1; rw [View.read_writes_eq_canon _ _ _ (scover0_C_1 c i a1 h1 a2 h2 a3 h3 a4 h4 a5 h5 a6 h6 a7 h7 g0 g1 x w p q)]
  all_goals
    unfold kernelRun0_C; dsimp only; sl_unfold_words
    simp only [View.canon_cons_unit_zero (S := S8x1024) off_zero, View.canon_cons_unit_zero (S := S64x1) off_zero, View.canon_cons_unit_zero (S := S1x1) off_zero, View.readCov_cons_toLoadRect, View.readAt_eq_ld, h1.read_unread, h2.read_unread, h6.read_unread, h7.read_unread,
      View.ld_unit_zero (S := S1024x4096) off_zero, View.ld_unit_zero (S := S64x4096) off_zero, View.ld_unit_zero (S := S64x1) off_zero, shapeCast_self]

end Cert.KernelIdeal.Gen

end
-- ==== Proof.Block.lean ====
/- The payloads of one block read at an index: the scores of the block's tokens, the state of the eight selection rounds,
   the weights, indices, and the contributions to the two running sums. -/
module

public import proofs.«01_k».proof.Proof.Stores
public import proofs.«01_k».proof.Proof.Router

@[expose] public section

set_option maxRecDepth 16384

noncomputable section

namespace Cert.KernelIdeal.Gen

open Idealize.ShloMosaic Cert.Route

variable (w : Vec Ideal S64x4096 .f32) (x : Vec Ideal S1024x4096 .f32)

/-- The scores of the block's token `t`. -/
def blockScore (t : Fin 1024) : Fin 64 → EReal :=
  score (logit (fun e d => w (ix2 e d)) fun d => x (ix2 t d))

/-- The block of scores, read at an index. -/
theorem pay7_at (e : Fin 64) (t : Fin 1024) : k0_pay7 w x (ix2 e t) = blockScore w x t e := by
  pointwise [k0_pay7]
  rw [word_bot]
  rfl

section Round

variable (s : Fin 1024 → Fin 64 → EReal) (hs : ∀ t e, 0 ≤ s t e) (r : Fin 64) (v : FVec Ideal S64x1024 .f32)
  (hv : ∀ e t, v (ix2 e t) = left (s t) r.val e)
include hs hv

/-- A round's maximum is the score at its place of the sort. -/
theorem round_max (t : Fin 1024) : k0_pay12 v (ix2 0 t) = s t (pick (s t) r) := by
  pointwise [k0_pay12]
  rw [word_bot, ← max_left (s t) (hs t) r]
  exact congrArg (fun f => Finset.fold max ⊥ f Finset.univ) (funext fun e => hv e t)

/-- A round's index is the position at its place of the sort. -/
theorem round_arg (t : Fin 1024) : k0_pay13 ids v (ix2 0 t) = BitVec.ofNat 32 (pick (s t) r).val := by
  pointwise [k0_pay13]
  rw [← argmax_left (s t) (hs t) r, round_max s hs r v hv]
  simp only [hv]

/-- A round leaves the column with one more position overwritten. -/
theorem round_next (e : Fin 64) (t : Fin 1024) : k0_pay14 ids v (ix2 e t) = left (s t) (r.val + 1) e := by
  pointwise [k0_pay14]
  rw [round_arg s hs r v hv, word_neg_one, left_succ, hv]
  by_cases h : e = pick (s t) r
  · rw [if_pos h, h]; simp [Scalar.select, IntOp.cmpi]
  · rw [if_neg h]; simp [Scalar.select, IntOp.cmpi, beq_false_of_ne (mt (word_inj e _).mp h)]

end Round

/-- The column after `r` rounds. -/
def work : ℕ → FVec Ideal S64x1024 .f32
  | 0 => k0_pay7 w x
  | r + 1 => k0_pay14 ids (work r)

/-- After `r` rounds the first `r` places of each token's sort are overwritten. -/
theorem work_at (r : ℕ) (hr : r < 64) (e : Fin 64) (t : Fin 1024) :
    work w x r (ix2 e t) = left (blockScore w x t) r e := by
  induction r generalizing e t with
  | zero => rw [left_zero]; exact pay7_at w x e t
  | succ r ih => exact round_next _ (fun _ => score_nonneg _) ⟨r, by omega⟩ _ (ih (by omega)) e t

/-- The maximum of round `r`. -/
theorem max_at (r : Fin 8) (t : Fin 1024) :
    k0_pay12 (work w x r.val) (ix2 0 t) = blockScore w x t (chosen (blockScore w x t) r) :=
  round_max _ (fun _ => score_nonneg _) (r.castLE (by decide)) _ (work_at w x r.val (by have := r.isLt; omega)) t

/-- The index of round `r`. -/
theorem arg_at (r : Fin 8) (t : Fin 1024) :
    k0_pay13 ids (work w x r.val) (ix2 0 t) = BitVec.ofNat 32 (chosen (blockScore w x t) r).val :=
  round_arg _ (fun _ => score_nonneg _) (r.castLE (by decide)) _ (work_at w x r.val (by have := r.isLt; omega)) t

/-- The eight selected scores of a token, stacked. -/
theorem top_at (k : Fin 8) (t : Fin 1024) : topBlock w x (ix2 k t) = blockScore w x t (chosen (blockScore w x t) k) := by
  rw [← max_at]
  pointwise [topBlock, k0_pay34]
  fin_vals k with hk
  all_goals simp only [hk, Nat.reduceSub, Nat.reduceLT, ↓reduceDIte]
  all_goals rfl

/-- The eight selected experts of a token, stacked. -/
theorem ti_at (k : Fin 8) (t : Fin 1024) : tiBlock w x (ix2 k t) = BitVec.ofNat 32 (chosen (blockScore w x t) k).val := by
  rw [← arg_at]
  pointwise [tiBlock, k0_pay2]
  fin_vals k with hk
  all_goals simp only [hk, Nat.reduceSub, Nat.reduceLT, ↓reduceDIte]
  all_goals rfl

/-- The weights of a token. -/
theorem tw_at (k : Fin 8) (t : Fin 1024) : twBlock w x (ix2 k t) = weight (blockScore w x t) k := by
  have hd : denBlock w x (ix2 0 t) = denom (blockScore w x t) := by
    pointwise [denBlock, k0_pay35]
    exact Ideal.add_congr (Finset.sum_congr rfl fun j _ => top_at w x j t) rfl
  pointwise [twBlock, k0_pay1]
  exact Ideal.mul_congr (top_at w x k t) (congrArg (Ideal.div 1) hd)

/-- The state after the eight rounds is negative exactly at the selected experts. -/
theorem done_at (e : Fin 64) (t : Fin 1024) : doneBlock w x (ix2 e t) = left (blockScore w x t) 8 e :=
  work_at w x 8 (by decide) e t

/-- What the block adds to the running sum of scores. -/
theorem scores_at (p : Vec Ideal S64x1 .f32) (e : Fin 64) :
    k0_pay8 w x p (ix2 e 0) = p (ix2 e 0) + ∑ t, blockScore w x t e := by
  pointwise [k0_pay8]
  exact Ideal.add_congr rfl (Finset.sum_congr rfl fun t _ => pay7_at w x e t)

/-- A block's count of negative entries, for any scores whose eight rounds it shows. -/
theorem negatives_at (s : Fin 1024 → Fin 64 → EReal) (hs : ∀ t e, 0 ≤ s t e) (v : FVec Ideal S64x1024 .f32)
    (hv : ∀ e t, v (ix2 e t) = left (s t) 8 e) (q : Vec Ideal S64x1 .f32) (e : Fin 64) :
    k0_pay3 v q (ix2 e 0) = q (ix2 e 0) + ∑ t, hit (s t) e := by
  pointwise [k0_pay3]
  refine Ideal.add_congr rfl (Finset.sum_congr rfl fun t _ => ?_)
  rw [hv]
  have h := left_neg (s t) (hs t) 8 e
  refine Eq.trans ?_ (sum_hot _ e).symm
  by_cases hc : left (s t) 8 e < 0
  · rw [if_pos (h.mp hc), decide_eq_true hc]
    show (((BitVec.setWidth 32 (BitVec.ofBool true)).toInt : ℝ) : EReal) = 1
    rw [show (BitVec.setWidth 32 (BitVec.ofBool true)).toInt = 1 by decide]
    norm_num
  · rw [if_neg (fun h' => hc (h.mpr h')), decide_eq_false hc]
    show (((BitVec.setWidth 32 (BitVec.ofBool false)).toInt : ℝ) : EReal) = 0
    rw [show (BitVec.setWidth 32 (BitVec.ofBool false)).toInt = 0 by decide]
    norm_num

/-- What the block adds to the running count of selections. -/
theorem counts_at (q : Vec Ideal S64x1 .f32) (e : Fin 64) :
    k0_pay3 (doneBlock w x) q (ix2 e 0) = q (ix2 e 0) + ∑ t, hit (blockScore w x t) e :=
  negatives_at _ (fun _ => score_nonneg _) _ (done_at w x) q e

/-- The auxiliary loss of finished sums. -/
theorem aux_at (p q : Vec Ideal S64x1 .f32) :
    k0_pay4 p q (ix2 0 0) = (∑ e, p (ix2 e 0) * q (ix2 e 0)) * Ideal.ofBits .f32 0x2FA3D70A#32 := by
  pointwise [k0_pay4]
  exact Ideal.mul_congr (Finset.sum_congr rfl fun e _ => Fin.sum_univ_one _) rfl

end Cert.KernelIdeal.Gen

end
-- ==== Proof.Points.lean ====
/- What the kernel's buffers hold after each grid point: the weights' and indices' blocks of that point, and the running
   sums over the points so far; after the last point the auxiliary loss. -/
module

public import proofs.«01_k».proof.Proof.Stores
public import proofs.«01_k».proof.Proof.Block

@[expose] public section

set_option maxRecDepth 16384

noncomputable section

namespace Cert.KernelIdeal.Gen

open Idealize.ShloMosaic Idealize.ShloMosaic.TcCoe Idealize.SL Idealize.SL.Sem Cert.Route

variable (m : (ℓ : Loc nD τ sig) → Buf (Elt Ideal) ℓ) (c : Dev nD)

/-- The block of tokens read at a point. -/
abbrev xAt (t : Fin cfg0.N) : Vec Ideal S1024x4096 .f32 := iblk m c 0 t

/-- The router's matrix as read at a point. -/
abbrev wAt (t : Fin cfg0.N) : Vec Ideal S64x4096 .f32 := iblk m c 1 t

/-- The running sum of scores as a point finds it. -/
def foundP (t : Fin cfg0.N) : Vec Ideal S64x1 .f32 :=
  if t.val = 0 then k0_pay5 (F := Ideal) else (outsAt0 m c (t.val - 1) (Nat.lt_of_le_of_lt (Nat.sub_le _ _) t.isLt)).2.2.2.1

/-- The running count of selections as a point finds it. -/
def foundC (t : Fin cfg0.N) : Vec Ideal S64x1 .f32 :=
  if t.val = 0 then k0_pay6 (F := Ideal) else (outsAt0 m c (t.val - 1) (Nat.lt_of_le_of_lt (Nat.sub_le _ _) t.isLt)).2.2.2.2

/-- After any point: its blocks and the advanced running sums. -/
theorem after_point (t : Fin cfg0.N) :
    (outsAt0 m c t.val t.isLt).1 = twBlock (wAt m c t) (xAt m c t)
    ∧ (outsAt0 m c t.val t.isLt).2.1 = tiBlock (wAt m c t) (xAt m c t)
    ∧ (outsAt0 m c t.val t.isLt).2.2.2.1 = k0_pay8 (wAt m c t) (xAt m c t) (foundP m c t)
    ∧ (outsAt0 m c t.val t.isLt).2.2.2.2 = k0_pay3 (doneBlock (wAt m c t) (xAt m c t)) (foundC m c t) := by
  have hN : t.val < 16 := lt_of_lt_of_eq t.isLt N_0
  unfold foundP foundC
  by_cases h0 : t.val % 16 = 0
  · have hz : t.val = 0 := by omega
    rw [if_pos hz, if_pos hz]
    have e := outsAt0_A m c t h0 (by omega)
    have h := stores_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
      (xAt m c t) (wAt m c t)
      ((hcond0_0 t).mpr h0) (fun h => (by omega : ¬t.val % 16 = 15) ((hcond0_1 t).mp h))
    rw [h.1, h.2.1, h.2.2.1, h.2.2.2] at e
    rw [e]
    exact ⟨rfl, rfl, rfl, rfl⟩
  · have hz : ¬t.val = 0 := by omega
    rw [if_neg hz, if_neg hz]
    by_cases h1 : t.val % 16 = 15
    · have e := outsAt0_C m c t h0 h1
      have h := stores_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
        (xAt m c t) (wAt m c t) (outsAt0 m c (t.val - 1) (Nat.lt_of_le_of_lt (Nat.sub_le _ _) t.isLt)).2.2.2.1
        (outsAt0 m c (t.val - 1) (Nat.lt_of_le_of_lt (Nat.sub_le _ _) t.isLt)).2.2.2.2
        (fun h => h0 ((hcond0_0 t).mp h)) ((hcond0_1 t).mpr h1)
      rw [h.1, h.2.1, h.2.2.1, h.2.2.2.1, h.2.2.2.2] at e
      rw [e]
      exact ⟨rfl, rfl, rfl, rfl⟩
    · have e := outsAt0_B m c t h0 h1
      have h := stores_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
        (xAt m c t) (wAt m c t) (outsAt0 m c (t.val - 1) (Nat.lt_of_le_of_lt (Nat.sub_le _ _) t.isLt)).2.2.2.1
        (outsAt0 m c (t.val - 1) (Nat.lt_of_le_of_lt (Nat.sub_le _ _) t.isLt)).2.2.2.2
        (fun h => h0 ((hcond0_0 t).mp h)) (fun h => h1 ((hcond0_1 t).mp h))
      rw [h.1, h.2.1, h.2.2.1, h.2.2.2] at e
      rw [e]
      exact ⟨rfl, rfl, rfl, rfl⟩

/-- After the last point the third result's buffer holds the auxiliary loss of the finished sums. -/
theorem after_last (t : Fin cfg0.N) (h1 : t.val % 16 = 15) :
    (outsAt0 m c t.val t.isLt).2.2.1 = k0_pay4 (outsAt0 m c t.val t.isLt).2.2.2.1 (outsAt0 m c t.val t.isLt).2.2.2.2 := by
  have h0 : ¬t.val % 16 = 0 := by omega
  rw [outsAt0_C m c t h0 h1]
  have h := stores_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (xAt m c t) (wAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    (fun h => h0 ((hcond0_0 t).mp h)) ((hcond0_1 t).mpr h1)
  exact h.2.2.1.trans (congrArg₂ k0_pay4 h.2.2.2.1.symm h.2.2.2.2.symm)

/-- A point's share of the sum of an expert's scores. -/
def shareP (n : ℕ) (e : Fin 64) : EReal :=
  if h : n < cfg0.N then ∑ t, blockScore (wAt m c ⟨n, h⟩) (xAt m c ⟨n, h⟩) t e else 0

/-- A point's share of the count of an expert's selections. -/
def shareC (n : ℕ) (e : Fin 64) : EReal :=
  if h : n < cfg0.N then ∑ t, hit (blockScore (wAt m c ⟨n, h⟩) (xAt m c ⟨n, h⟩) t) e else 0

/-- The first point starts the score sums at zero. -/
theorem pay5_at (e : Fin 64) : k0_pay5 (F := Ideal) (ix2 e 0) = 0 := by pointwise [k0_pay5]

/-- The first point starts the counts at zero. -/
theorem pay6_at (e : Fin 64) : k0_pay6 (F := Ideal) (ix2 e 0) = 0 := by pointwise [k0_pay6]

/-- The running sum of scores after a point. -/
theorem sumP_at (e : Fin 64) (n : ℕ) (hn : n < cfg0.N) :
    (outsAt0 m c n hn).2.2.2.1 (ix2 e 0) = ∑ i ∈ Finset.range (n + 1), shareP m c i e := by
  induction n with
  | zero =>
    rw [(after_point m c ⟨0, hn⟩).2.2.1, scores_at, Finset.sum_range_one, shareP, dif_pos hn]
    unfold foundP
    rw [if_pos rfl, pay5_at, zero_add]
  | succ n ih =>
    rw [(after_point m c ⟨n + 1, hn⟩).2.2.1, scores_at, Finset.sum_range_succ, shareP, dif_pos hn]
    unfold foundP
    rw [if_neg (Nat.succ_ne_zero n)]
    exact congrArg (· + _) (ih (Nat.lt_of_succ_lt hn))

/-- The running count of selections after a point. -/
theorem sumC_at (e : Fin 64) (n : ℕ) (hn : n < cfg0.N) :
    (outsAt0 m c n hn).2.2.2.2 (ix2 e 0) = ∑ i ∈ Finset.range (n + 1), shareC m c i e := by
  induction n with
  | zero =>
    rw [(after_point m c ⟨0, hn⟩).2.2.2, counts_at, Finset.sum_range_one, shareC, dif_pos hn]
    unfold foundC
    rw [if_pos rfl, pay6_at, zero_add]
  | succ n ih =>
    rw [(after_point m c ⟨n + 1, hn⟩).2.2.2, counts_at, Finset.sum_range_succ, shareC, dif_pos hn]
    unfold foundC
    rw [if_neg (Nat.succ_ne_zero n)]
    exact congrArg (· + _) (ih (Nat.lt_of_succ_lt hn))

/-- The auxiliary loss after the last point. -/
theorem aux_last (t : Fin cfg0.N) (h1 : t.val % 16 = 15) :
    (outsAt0 m c t.val t.isLt).2.2.1 (ix2 0 0)
      = (∑ e, (∑ i ∈ Finset.range (t.val + 1), shareP m c i e) * ∑ i ∈ Finset.range (t.val + 1), shareC m c i e)
        * Ideal.ofBits .f32 0x2FA3D70A#32 := by
  rw [after_last m c t h1, aux_at]
  refine Ideal.mul_congr (Finset.sum_congr rfl fun e _ => ?_) rfl
  rw [sumP_at, sumC_at]

end Cert.KernelIdeal.Gen

end
-- ==== Proof.Arrays.lean ====
/- What the kernel's result arrays hold at the end, token by token: each block a point reads is a run of rows of the
   token matrix, and the blocks written back tile the result arrays. -/
module

public import proofs.«01_k».proof.Proof.Points
public import proofs.«01_k».proof.Proof.Sums
public import Idealize.ShloMosaic.Lib.Pipeline.ValueKit

@[expose] public section

set_option maxRecDepth 16384

noncomputable section

namespace Cert.KernelIdeal.Gen

open Idealize.ShloMosaic Idealize.ShloMosaic.TcCoe Idealize.SL Idealize.SL.Sem Cert.Route

variable (m : (ℓ : Loc nD τ sig) → Buf (Elt Ideal) ℓ) (c : Dev nD)

/-- The token matrix: the first argument with its two leading axes merged. -/
def tokens : FVec Ideal S16384x4096 .f32 := shapeCast S16384x4096 (m ((c.tc : Thread nD τ).loc main_arg0)) shapeCasts_S4x4096x4096_S16384x4096

/-- The router's matrix: the second argument. -/
def router : FVec Ideal S64x4096 .f32 := m ((c.tc : Thread nD τ).loc main_arg1)

/-- The scores of a token. -/
def tokenScore (x : FVec Ideal S16384x4096 .f32) (w : FVec Ideal S64x4096 .f32) (t : Fin 16384) : Fin 64 → EReal :=
  score (logit (fun e d => w (ix2 e d)) fun d => x (ix2 t d))

/-- The region finds the token matrix in the buffer that window 0 reads. -/
theorem found_tokens : V m c main_call0_v0 = tokens m c := by
  show StableHlo.after (List.flatten [hostOps0]) _ _ = _
  simp only [hostOps0, List.flatten_cons, List.flatten_nil, List.append_nil]
  after_results
  rfl

/-- Window 0 is at block row `t` at point `t`. -/
theorem index0 : ∀ t : Fin cfg0.N, win0_0.index t = ![t.val, 0] := (by decide +kernel : ∀ t : Fin grid0.N, _)
/-- Window 1 stays at the origin. -/
theorem index1 : ∀ t : Fin cfg0.N, win0_1.index t = ![0, 0] := (by decide +kernel : ∀ t : Fin grid0.N, _)
/-- Window 2 is at block column `t` at point `t`. -/
theorem index2 : ∀ t : Fin cfg0.N, win0_2.index t = ![0, t.val] := (by decide +kernel : ∀ t : Fin grid0.N, _)
/-- Window 3 is at block column `t` at point `t`. -/
theorem index3 : ∀ t : Fin cfg0.N, win0_3.index t = ![0, t.val] := (by decide +kernel : ∀ t : Fin grid0.N, _)
/-- Window 4 stays at the origin. -/
theorem index4 : ∀ t : Fin cfg0.N, win0_4.index t = ![0, 0] := (by decide +kernel : ∀ t : Fin grid0.N, _)

/-- Row `r` of the block at point `t` is token `1024 t + r`. -/
theorem xAt_at (t : Fin cfg0.N) (r : Fin 1024) (d : Fin 4096) (h : 1024 * t.val + r.val < 16384) :
    xAt m c t (ix2 r d) = tokens m c (ix2 ⟨1024 * t.val + r.val, h⟩ d) := by
  rw [← found_tokens]
  blk_simp [xAt, iblk]
  refine congrArg (V m c main_call0_v0) ?_
  blk_ext [index0]

/-- Every point reads the whole router's matrix. -/
theorem wAt_at (t : Fin cfg0.N) (e : Fin 64) (d : Fin 4096) : wAt m c t (ix2 e d) = router m c (ix2 e d) := by
  have hr : router m c = V m c main_arg1 := (V_main_arg1 m c).symm
  rw [hr]
  blk_simp [wAt, iblk]
  refine congrArg (V m c main_arg1) ?_
  blk_ext [index1]

/-- The scores of row `r` of the block at point `t`. -/
theorem blockScore_at (t : Fin cfg0.N) (r : Fin 1024) (h : 1024 * t.val + r.val < 16384) :
    blockScore (wAt m c t) (xAt m c t) r = tokenScore (tokens m c) (router m c) ⟨1024 * t.val + r.val, h⟩ := by
  unfold blockScore tokenScore
  refine congrArg score (congrArg₂ logit (funext fun e => funext fun d => wAt_at m c t e d) (funext fun d => xAt_at m c t r d h))

/-- The weights' array at the end, a column per token. -/
def endW : Vec Ideal S8x16384 .f32 := fun j => weight (tokenScore (tokens m c) (router m c) (j 1)) (j 0)

/-- The indices' array at the end, a column per token. -/
def endI : Vec Ideal S8x16384 .i32 := fun j => BitVec.ofNat 32 (chosen (tokenScore (tokens m c) (router m c) (j 1)) (j 0)).val

/-- An entry of the block of weights stored at point `t` is the weights' array's entry `1024 t` columns on. -/
theorem twBlock_entry (t : Fin cfg0.N) (k : Fin 8) (r : Fin 1024) (h : 1024 * t.val + r.val < 16384) :
    twBlock (wAt m c t) (xAt m c t) (ix2 k r) = endW m c (ix2 k ⟨1024 * t.val + r.val, h⟩) := by
  rw [tw_at, blockScore_at m c t r h]
  rfl

/-- The same for the indices. -/
theorem tiBlock_entry (t : Fin cfg0.N) (k : Fin 8) (r : Fin 1024) (h : 1024 * t.val + r.val < 16384) :
    tiBlock (wAt m c t) (xAt m c t) (ix2 k r) = endI m c (ix2 k ⟨1024 * t.val + r.val, h⟩) := by
  rw [ti_at, blockScore_at m c t r h]
  rfl

/-- A row of a point's block is one of the tokens. -/
theorem row_lt (t : Fin cfg0.N) (r : Fin 1024) : 1024 * t.val + r.val < 16384 := by
  have hN : t.val < 16 := lt_of_lt_of_eq t.isLt N_0
  omega

/-- The weights' array at the end. -/
theorem final_W : (dats m 0 c).arrAt 2 cfg0.N = endW m c := by
  refine (dats m 0 c).arrAt_eq_of_covers 2 _ (by decide +kernel) fun t hf y => ?_
  blk_simp
  rw [after0_2, (after_point m c t).1]
  have hy : y = ix2 (y 0 : Fin 8) (y 1 : Fin 1024) := eq_ix2 _
  have e := twBlock_entry m c t (y 0) (y 1) (row_lt t (y 1))
  refine (congrArg (twBlock (wAt m c t) (xAt m c t)) hy).trans (e.trans (congrArg (endW m c) ?_))
  blk_ext [index2]

/-- The indices' array at the end. -/
theorem final_I : (dats m 0 c).arrAt 3 cfg0.N = endI m c := by
  refine (dats m 0 c).arrAt_eq_of_covers 3 _ (by decide +kernel) fun t hf y => ?_
  blk_simp
  rw [after0_3, (after_point m c t).2.1]
  have hy : y = ix2 (y 0 : Fin 8) (y 1 : Fin 1024) := eq_ix2 _
  have e := tiBlock_entry m c t (y 0) (y 1) (row_lt t (y 1))
  refine (congrArg (tiBlock (wAt m c t) (xAt m c t)) hy).trans (e.trans (congrArg (endI m c) ?_))
  blk_ext [index3]

/-- The auxiliary loss at the end. -/
def endA : Vec Ideal S1x1 .f32 := fun _ =>
  (∑ e, (∑ t, tokenScore (tokens m c) (router m c) t e) * ∑ t, hit (tokenScore (tokens m c) (router m c) t) e) * Ideal.ofBits .f32 0x2FA3D70A#32

/-- The points' shares of an expert's scores add up to the sum over all tokens. -/
theorem total_P (e : Fin 64) : ∑ i ∈ Finset.range 16, shareP m c i e = ∑ t, tokenScore (tokens m c) (router m c) t e := by
  rw [Finset.sum_range, sum_runs (m := 16) (n := 1024) rfl (fun t => tokenScore (tokens m c) (router m c) t e)
    (fun i r => tokenScore (tokens m c) (router m c) ⟨1024 * i.val + r.val, by omega⟩ e) fun _ _ _ => rfl]
  refine Finset.sum_congr rfl fun i _ => ?_
  rw [shareP, dif_pos (lt_of_lt_of_eq i.isLt N_0.symm)]
  exact Finset.sum_congr rfl fun r _ => congrFun (blockScore_at m c ⟨i.val, lt_of_lt_of_eq i.isLt N_0.symm⟩ r (by have := i.isLt; have := r.isLt; dsimp only; omega)) e

/-- The points' shares of an expert's selections add up to the count over all tokens. -/
theorem total_C (e : Fin 64) : ∑ i ∈ Finset.range 16, shareC m c i e = ∑ t, hit (tokenScore (tokens m c) (router m c) t) e := by
  rw [Finset.sum_range, sum_runs (m := 16) (n := 1024) rfl (fun t => hit (tokenScore (tokens m c) (router m c) t) e)
    (fun i r => hit (tokenScore (tokens m c) (router m c) ⟨1024 * i.val + r.val, by omega⟩) e) fun _ _ _ => rfl]
  refine Finset.sum_congr rfl fun i _ => ?_
  rw [shareC, dif_pos (lt_of_lt_of_eq i.isLt N_0.symm)]
  exact Finset.sum_congr rfl fun r _ => congrArg (fun s => hit s e) (blockScore_at m c ⟨i.val, lt_of_lt_of_eq i.isLt N_0.symm⟩ r (by have := i.isLt; have := r.isLt; dsimp only; omega))

/-- A one-entry matrix has one index. -/
theorem only_index (y : S1x1.Idx) : y = ix2 0 0 := by
  have h : ∀ a b : Fin 1, ix2 a b = ix2 0 0 := fun a b => by rw [Subsingleton.elim a 0, Subsingleton.elim b 0]
  exact (eq_ix2 y).trans (h _ _)

/-- The third result's array at the end. -/
theorem final_A : (dats m 0 c).arrAt 4 cfg0.N = endA m c := by
  refine (dats m 0 c).arrAt_eq_of_covers 4 _ (by decide +kernel) fun t hf y => ?_
  blk_simp
  rw [after0_4]
  have h1 := (flush0_4 t).mp hf
  have h15 : t.val + 1 = 16 := by have hN : t.val < 16 := lt_of_lt_of_eq t.isLt N_0; omega
  have e := aux_last m c t h1
  rw [h15] at e
  refine (congrArg (outsAt0 m c t.val t.isLt).2.2.1 (only_index y)).trans (e.trans (Ideal.mul_congr (Finset.sum_congr rfl fun e _ => ?_) rfl))
  rw [total_P, total_C]

end Cert.KernelIdeal.Gen

end
-- ==== Proof.Results.lean ====
/- The kernel's run: its three results are the weights, the chosen experts and the auxiliary loss of the tokens, and the
   arguments are unchanged. -/
module

public import proofs.«01_k».proof.Proof.Arrays

@[expose] public section

set_option maxRecDepth 16384

noncomputable section

namespace Cert.KernelIdeal.Gen

open Idealize.ShloMosaic Idealize.ShloMosaic.TcCoe Idealize.SL Idealize.SL.Sem Cert.Route

variable (m : (ℓ : Loc nD τ sig) → Buf (Elt Ideal) ℓ) (ρ : Dev nD → PrngReg) (c : Dev nD)

/-- The first result: each token's eight weights. -/
def resW : FVec Ideal S16384x8 .f32 := fun j => weight (tokenScore (tokens m c) (router m c) (j 0)) (j 1)

/-- The second result: each token's eight experts. -/
def resI : IVec S16384x8 32 := fun j => BitVec.ofNat 32 (chosen (tokenScore (tokens m c) (router m c) (j 0)) (j 1)).val

/-- The third result: the auxiliary loss. -/
def resA : FVec Ideal S_ .f32 := fun _ =>
  (∑ e, (∑ t, tokenScore (tokens m c) (router m c) t e) * ∑ t, hit (tokenScore (tokens m c) (router m c) t) e) * Ideal.ofBits .f32 0x2FA3D70A#32

/-- The buffers as the lines after the region find them. -/
abbrev atTail : Valuation τ sig (Elt Ideal) := Pipeline.withArrays (cfgs 0).spec c (V0 m c) fun w => (dats m 0 c).arrAt w (cfgs 0).N

/-- The lines after the region find the weights' array at its end contents. -/
theorem atTail_W : atTail m c (Proc.devRef .tc main_call0_v1_0) = endW m c :=
  (Pipeline.withArrays_arr spec0 (by decide) c (V0 m c) _ 2).trans (final_W m c)

/-- They find the indices' array at its end contents. -/
theorem atTail_I : atTail m c (Proc.devRef .tc main_call0_v1_1) = endI m c :=
  (Pipeline.withArrays_arr spec0 (by decide) c (V0 m c) _ 3).trans (final_I m c)

/-- They find the third result's array at its end contents. -/
theorem atTail_A : atTail m c (Proc.devRef .tc main_call0_v1_2) = endA m c :=
  (Pipeline.withArrays_arr spec0 (by decide) c (V0 m c) _ 4).trans (final_A m c)

/-- The transposed weights' array is the first result. -/
theorem tail_W : Pipeline.afterTail₀ cfgs (dats m) 0 (V0 m) [hostOps1] c main_v0_0 = resW m c := by
  show StableHlo.after (List.flatten [hostOps1]) (atTail m c) _ = _
  simp only [hostOps1, List.flatten_cons, List.flatten_nil, List.append_nil]
  after_results
  show transpose S16384x8 [1, 0] (atTail m c (Proc.devRef .tc main_call0_v1_0)) transposes_S8x16384_S16384x8_1_0 = _
  rw [atTail_W]
  funext j
  idx_vars j
  pointwise [endW, resW]

/-- The transposed indices' array is the second result. -/
theorem tail_I : Pipeline.afterTail₀ cfgs (dats m) 0 (V0 m) [hostOps1] c main_v0_1 = resI m c := by
  show StableHlo.after (List.flatten [hostOps1]) (atTail m c) _ = _
  simp only [hostOps1, List.flatten_cons, List.flatten_nil, List.append_nil]
  after_results
  show transpose S16384x8 [1, 0] (atTail m c (Proc.devRef .tc main_call0_v1_1)) transposes_S8x16384_S16384x8_1_0 = _
  rw [atTail_I]
  funext j
  idx_vars j
  pointwise [endI, resI]

/-- The one entry of the third result's array is the third result. -/
theorem tail_A : Pipeline.afterTail₀ cfgs (dats m) 0 (V0 m) [hostOps1] c main_v0_2 = resA m c := by
  show StableHlo.after (List.flatten [hostOps1]) (atTail m c) _ = _
  simp only [hostOps1, List.flatten_cons, List.flatten_nil, List.append_nil]
  after_results
  show shapeCast S_ (atTail m c (Proc.devRef .tc main_call0_v1_2)) shapeCasts_S1x1_S_ = _
  rw [atTail_A]
  rfl

/-- Every run of the kernel ends with its three results at these values and its arguments unchanged. -/
theorem results : θ_run defs (onTc (τ := τ) (main (F := Ideal))) ⟨m, fun _ => 0, ρ⟩ (fun r => ∀ c : Dev nD,
      r.2.mem ((c.tc : Thread nD τ).loc main_v0_0) = resW m c
      ∧ r.2.mem ((c.tc : Thread nD τ).loc main_v0_1) = resI m c
      ∧ r.2.mem ((c.tc : Thread nD τ).loc main_v0_2) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.rest_eq c main_v0_0 (Pipeline.mem_restRefs_of main_v0_0 (by decide) (by decide))).trans (tail_W m c),
      (h.1.rest_eq c main_v0_1 (Pipeline.mem_restRefs_of main_v0_1 (by decide) (by decide))).trans (tail_I m c),
      (h.1.rest_eq c main_v0_2 (Pipeline.mem_restRefs_of main_v0_2 (by decide) (by decide))).trans (tail_A m c), h.2 c⟩)
    (θ_run_and (run_main m ρ) (unchanged m ρ))

end Cert.KernelIdeal.Gen

end
-- ==== Proof.Equal.lean ====
/- The equations between the kernel's formulas and the reference's, over the extended reals: a softmax sum of real logits
   is not zero, dividing is multiplying by the reciprocal, and the two scalings of the auxiliary loss agree. -/
module

public import proofs.«01_k».proof.Proof.Router

@[expose] public section

noncomputable section

namespace Cert.Route

open Idealize.ShloMosaic

/-- A finite sum of real numbers is a real number. -/
theorem sum_real {ι : Type} (S : Finset ι) (f : ι → EReal) (h : ∀ i, ∃ r : ℝ, f i = r) : ∃ r : ℝ, ∑ i ∈ S, f i = r := by
  classical
  induction S using Finset.induction_on with
  | empty => exact ⟨0, by simp⟩
  | insert a S ha ih =>
    obtain ⟨r, hr⟩ := ih
    obtain ⟨q, hq⟩ := h a
    exact ⟨q + r, by rw [Finset.sum_insert ha, hr, hq, EReal.coe_add]⟩

/-- The logits of real rows are real. -/
theorem logit_real (w : Fin 64 → Fin 4096 → EReal) (x : Fin 4096 → EReal) (hw : ∀ e d, ∃ r : ℝ, w e d = r)
    (hx : ∀ d, ∃ r : ℝ, x d = r) (e : Fin 64) : ∃ r : ℝ, logit w x e = r :=
  sum_real _ _ fun d => by
    obtain ⟨a, ha⟩ := hw e d
    obtain ⟨b, hb⟩ := hx d
    exact ⟨a * b, by rw [ha, hb, EReal.coe_mul]⟩

/-- The greatest logit is one of the logits. -/
theorem peak_mem (l : Fin 64 → EReal) : ∃ e, peak l = l e := by
  obtain ⟨e, -, he⟩ := Finset.exists_mem_eq_sup (Finset.univ : Finset (Fin 64)) ⟨0, Finset.mem_univ _⟩ l
  exact ⟨e, he⟩

/-- The sum of exponentials of real logits is not zero: the greatest logit contributes 1. -/
theorem mass_ne_zero (l : Fin 64 → EReal) (h : ∀ e, ∃ r : ℝ, l e = r) : mass l ≠ 0 := by
  obtain ⟨e, he⟩ := peak_mem l
  obtain ⟨r, hr⟩ := h e
  have h1 : Ideal.exp (l e - peak l) = 1 := by
    rw [he, hr, ← EReal.coe_sub, sub_self]
    show ((Real.exp 0 : ℝ) : EReal) = 1
    rw [Real.exp_zero, EReal.coe_one]
  have h2 : Ideal.exp (l e - peak l) ≤ mass l := Finset.single_le_sum (f := fun e => Ideal.exp (l e - peak l)) (fun _ _ => exp_nonneg _) (Finset.mem_univ e)
  rw [h1] at h2
  exact (lt_of_lt_of_le zero_lt_one h2).ne'

/-- Dividing by a number that is not zero is multiplying by its reciprocal. -/
theorem div_eq (a b : EReal) (h : b ≠ 0) : Ideal.div a b = a * Ideal.div 1 b := by
  simp only [Ideal.div, if_neg h, one_mul]

/-- The small constant of the denominator is positive. -/
theorem small_pos : 0 < Ideal.ofBits .f32 0x3089705F#32 := by
  have h : Ideal.ofBits .f32 0x3089705F#32 = (((1 : ℝ) * (2 ^ 23 + (618591 : ℕ) : ℕ) * (2 : ℝ) ^ (-53 : ℤ) : ℝ) : EReal) := rfl
  rw [h]
  exact EReal.coe_pos.mpr (by positivity)

/-- The denominator of the weights is not zero. -/
theorem denom_ne_zero (s : Fin 64 → EReal) (hs : ∀ e, 0 ≤ s e) : denom s ≠ 0 :=
  (lt_of_lt_of_le small_pos (le_add_of_nonneg_left (Finset.sum_nonneg fun _ _ => hs _))).ne'

/-- A count of choices is not negative. -/
theorem hit_nonneg (s : Fin 64 → EReal) (e : Fin 64) : 0 ≤ hit s e :=
  Finset.sum_nonneg fun _ _ => by split; exacts [zero_le_one, le_rfl]

/-- A factor comes out of a sum of nonnegative terms. -/
theorem sum_mul_nonneg {ι : Type} (S : Finset ι) (f : ι → EReal) (h : ∀ i, 0 ≤ f i) (k : EReal) :
    ∑ i ∈ S, f i * k = (∑ i ∈ S, f i) * k := by
  classical
  induction S using Finset.induction_on with
  | empty => simp
  | insert a S ha ih =>
    rw [Finset.sum_insert ha, Finset.sum_insert ha, ih, EReal.right_distrib_of_nonneg (h a) (Finset.sum_nonneg fun i _ => h i)]

/-- The word of 16384. -/
theorem word_tokens : Ideal.ofBits .f32 0x46800000#32 = ((16384 : ℝ) : EReal) := by
  have h : Ideal.ofBits .f32 0x46800000#32 = (((1 : ℝ) * (2 ^ 23 + (0 : ℕ) : ℕ) * (2 : ℝ) ^ (-9 : ℤ) : ℝ) : EReal) := rfl
  rw [h]
  norm_num

/-- The word of 131072. -/
theorem word_choices : Ideal.ofBits .f32 0x48000000#32 = ((131072 : ℝ) : EReal) := by
  have h : Ideal.ofBits .f32 0x48000000#32 = (((1 : ℝ) * (2 ^ 23 + (0 : ℕ) : ℕ) * (2 : ℝ) ^ (-6 : ℤ) : ℝ) : EReal) := rfl
  rw [h]
  norm_num

/-- The word of 64. -/
theorem word_experts : Ideal.ofBits .f32 0x42800000#32 = ((64 : ℝ) : EReal) := by
  have h : Ideal.ofBits .f32 0x42800000#32 = (((1 : ℝ) * (2 ^ 23 + (0 : ℕ) : ℕ) * (2 : ℝ) ^ (-17 : ℤ) : ℝ) : EReal) := rfl
  rw [h]
  norm_num

/-- The kernel's factor is the reference's times 64 / (16384 · 131072). -/
theorem word_factor : (((1 / 33554432 : ℝ)) : EReal) * Ideal.ofBits .f32 0x3C23D70A#32 = Ideal.ofBits .f32 0x2FA3D70A#32 := by
  have h : Ideal.ofBits .f32 0x3C23D70A#32 = (((1 : ℝ) * (2 ^ 23 + (2348810 : ℕ) : ℕ) * (2 : ℝ) ^ (-30 : ℤ) : ℝ) : EReal) := rfl
  have h' : Ideal.ofBits .f32 0x2FA3D70A#32 = (((1 : ℝ) * (2 ^ 23 + (2348810 : ℕ) : ℕ) * (2 : ℝ) ^ (-55 : ℤ) : ℝ) : EReal) := rfl
  rw [h, h', ← EReal.coe_mul]
  norm_num

/-- Dividing by a real number that is not zero. -/
theorem div_coe (a : EReal) (r : ℝ) (h : r ≠ 0) : Ideal.div a (r : EReal) = a * ((r⁻¹ : ℝ) : EReal) := by
  simp only [Ideal.div, if_neg (EReal.coe_ne_zero.mpr h), EReal.coe_inv]

/-- The reference's scaling of the auxiliary loss, expert by expert, is the kernel's one scaling of the whole sum. -/
theorem aux_eq (P C : Fin 64 → EReal) (hP : ∀ e, 0 ≤ P e) (hC : ∀ e, 0 ≤ C e) :
    (∑ e, Ideal.div (P e) (Ideal.ofBits .f32 0x46800000#32)
      * (Ideal.div (C e) (Ideal.ofBits .f32 0x48000000#32) * Ideal.ofBits .f32 0x42800000#32)) * Ideal.ofBits .f32 0x3C23D70A#32
    = (∑ e, P e * C e) * Ideal.ofBits .f32 0x2FA3D70A#32 := by
  have hterm : ∀ e, Ideal.div (P e) (Ideal.ofBits .f32 0x46800000#32)
      * (Ideal.div (C e) (Ideal.ofBits .f32 0x48000000#32) * Ideal.ofBits .f32 0x42800000#32)
      = P e * C e * ((1 / 33554432 : ℝ) : EReal) := fun e => by
    rw [word_tokens, word_choices, word_experts, div_coe _ _ (by norm_num), div_coe _ _ (by norm_num), mul_assoc (C e), ← EReal.coe_mul,
      mul_mul_mul_comm, ← EReal.coe_mul]
    norm_num
  rw [Finset.sum_congr rfl fun e _ => hterm e, sum_mul_nonneg _ _ (fun e => mul_nonneg (hP e) (hC e)), mul_assoc, word_factor]

end Cert.Route

end
-- ==== Proof.Meet.lean ====
/- Kernel and reference meet: where the arguments are finite, the reference's three results of the same token and router
   matrices are the kernel's. -/
module

public import proofs.«01_k».proof.Defs
public import proofs.«01_k».proof.Proof.Ref
public import proofs.«01_k».proof.Proof.Results
public import proofs.«01_k».proof.Proof.Equal

@[expose] public section

set_option maxRecDepth 16384

noncomputable section

namespace Cert.Route

open Idealize.ShloMosaic Cert.KernelIdeal.Gen Cert.ReferenceIdeal.Value
open Cert.ReferenceIdeal (S16384x4096 S64x4096 S16384x8 S16384x64 S_)

/-- An extended real whose absolute value is below the infinite word is a real number. -/
theorem real_of_below (a : EReal) (h : FloatOps.cmpf (F := Ideal) (φ := .f32) .olt (FloatOps.hostAbsf (F := Ideal) (φ := .f32) a) (Ideal.ofBits .f32 0x7F800000#32) = 1#1) :
    ∃ r : ℝ, a = r := by
  have htop : Ideal.ofBits .f32 0x7F800000#32 = ⊤ := by simp [Ideal.ofBits, Ideal.ieee]
  rw [htop] at h
  have h' : BitVec.ofBool (decide (max a (-a) < ⊤)) = 1#1 := h
  induction a using EReal.rec with
  | bot => simp at h'
  | top => simp at h'
  | coe r => exact ⟨r, rfl⟩

/-- The shape relations of the precondition hold. -/
theorem pre_facts : Cert.Pre_finite.Facts := ⟨by decide, by decide⟩

variable (x : FVec Ideal S16384x4096 .f32) (w : FVec Ideal S64x4096 .f32)

/-- The reference's scores of finite tokens and a finite router are the kernel's. -/
theorem scores_eq (hx : ∀ t d, ∃ r : ℝ, x (ix2 t d) = r) (hw : ∀ e d, ∃ r : ℝ, w (ix2 e d) = r) (t : Fin 16384) :
    (fun e => refSoftmax (refLogits x w) (ix2 t e)) = tokenScore x w t := by
  have hl : (fun e => refLogits x w (ix2 t e)) = logit (fun e d => w (ix2 e d)) fun d => x (ix2 t d) :=
    funext fun e => refLogits_at x w t e
  funext e
  rw [refSoftmax_at _ _ _ (by rw [hl]; exact mass_ne_zero _ fun e => logit_real _ _ hw (hx t) e), hl]
  rfl

/-- The reference's weight of a token's place, where its scores are `tokenScore`. -/
theorem weights_eq (s : FVec Ideal S16384x64 .f32) (σ : Fin 16384 → Fin 64 → EReal) (h : ∀ t, (fun e => s (ix2 t e)) = σ t)
    (h0 : ∀ t e, 0 ≤ σ t e) (t : Fin 16384) (k : Fin 8) : refWeights (refTop s).1 (ix2 t k) = weight (σ t) k := by
  have hv : ∀ j, (refTop s).1 (ix2 t j) = σ t (chosen (σ t) j) := fun j => by
    rw [(refTop_at s t j).1, h t]
    exact congrFun (h t) _
  rw [refWeights_at, hv k, Finset.sum_congr rfl fun j _ => hv j]
  exact div_eq _ _ (denom_ne_zero _ (h0 t))

/-- The reference's index at a token's place. -/
theorem places_eq (s : FVec Ideal S16384x64 .f32) (σ : Fin 16384 → Fin 64 → EReal) (h : ∀ t, (fun e => s (ix2 t e)) = σ t)
    (t : Fin 16384) (k : Fin 8) : (refTop s).2 (ix2 t k) = BitVec.ofNat 32 (chosen (σ t) k).val := by
  rw [(refTop_at s t k).2, h t]

/-- The reference's auxiliary loss. -/
theorem loss_eq (s : FVec Ideal S16384x64 .f32) (σ : Fin 16384 → Fin 64 → EReal) (h : ∀ t, (fun e => s (ix2 t e)) = σ t)
    (h0 : ∀ t e, 0 ≤ σ t e) :
    refAux s (refTop s).2 ix0 = (∑ e, (∑ t, σ t e) * ∑ t, hit (σ t) e) * Ideal.ofBits .f32 0x2FA3D70A#32 := by
  rw [refAux_at s _ (fun t => chosen (σ t)) (places_eq s σ h),
    ← aux_eq (fun e => ∑ t, σ t e) (fun e => ∑ t, hit (σ t) e) (fun e => Finset.sum_nonneg fun t _ => h0 t e)
      (fun e => Finset.sum_nonneg fun t _ => hit_nonneg _ e)]
  have hs : ∀ e, ∑ t, s (ix2 t e) = ∑ t, σ t e := fun e => Finset.sum_congr rfl fun t _ => congrFun (h t) e
  simp only [hs]
  rfl

variable (m : (ℓ : Loc Cert.KernelIdeal.nD Cert.KernelIdeal.τ Cert.KernelIdeal.sig) → Buf (Elt Ideal) ℓ) (c : Dev Cert.KernelIdeal.nD)

/-- Under the precondition every entry of the token matrix is a real number. -/
theorem tokens_real [Cert.Pre_finite.Facts] (h : Cert.Pre_KernelIdeal_finite m) (t : Fin 16384) (d : Fin 4096) :
    ∃ r : ℝ, tokens m c (ix2 t d) = r :=
  real_of_below _ (congrFun (h c).1 _)

/-- Under the precondition every entry of the router's matrix is a real number. -/
theorem router_real [Cert.Pre_finite.Facts] (h : Cert.Pre_KernelIdeal_finite m) (e : Fin 64) (d : Fin 4096) :
    ∃ r : ℝ, router m c (ix2 e d) = r :=
  real_of_below _ (congrFun (h c).2 (ix2 e d))

/-- The reference's scores of the kernel's arguments. -/
def refScores : FVec Ideal S16384x64 .f32 := refSoftmax (refLogits (tokens m c) (router m c))

variable [Cert.Pre_finite.Facts] (h : Cert.Pre_KernelIdeal_finite m)
include h

/-- Under the precondition they are the kernel's scores. -/
theorem refScores_eq (t : Fin 16384) : (fun e => refScores m c (ix2 t e)) = tokenScore (tokens m c) (router m c) t :=
  scores_eq _ _ (tokens_real m c h) (router_real m c h) t

/-- Under the precondition the reference's weights are the kernel's first result. -/
theorem first_eq : refWeights (refTop (refScores m c)).1 = resW m c := by
  funext j
  obtain ⟨t, k, rfl⟩ : ∃ t k, j = ix2 t k := ⟨_, _, eq_ix2 j⟩
  exact weights_eq _ _ (refScores_eq m c h) (fun _ _ => score_nonneg _ _) t k

/-- Under the precondition the reference's indices are the kernel's second result. -/
theorem second_eq : (refTop (refScores m c)).2 = resI m c := by
  funext j
  obtain ⟨t, k, rfl⟩ : ∃ t k, j = ix2 t k := ⟨_, _, eq_ix2 j⟩
  exact places_eq _ _ (refScores_eq m c h) t k

/-- Under the precondition the reference's auxiliary loss is the kernel's third result. -/
theorem third_eq : refAux (refScores m c) (refTop (refScores m c)).2 = resA m c := by
  funext j
  obtain rfl : j = ix0 := funext fun a => a.elim0
  exact loss_eq _ _ (refScores_eq m c h) (fun _ _ => score_nonneg _ _)

end Cert.Route

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The reference's scores of the arguments in memory. -/
def runScores (c : Dev nD) : FVec Ideal S16384x64 .f32 :=
  refSoftmax (refLogits (shapeCast _ (m ((c.tc : Thread nD τ).loc main_arg0)) shapeCasts_S4x4096x4096_S16384x4096) (m ((c.tc : Thread nD τ).loc main_arg1)))

/-- Every run of the reference ends with its three results at the weights, the indices and the auxiliary loss of its
    scores, and its arguments unchanged. -/
theorem results : θ_run defs (onTc (τ := τ) (main (F := Ideal))) ⟨m, fun _ => 0, ρ⟩ fun r => ∀ c : Dev nD,
      r.2.mem ((c.tc : Thread nD τ).loc main_v19) = refWeights (refTop (runScores m c)).1
      ∧ r.2.mem ((c.tc : Thread nD τ).loc main_indices) = (refTop (runScores m c)).2
      ∧ r.2.mem ((c.tc : Thread nD τ).loc main_v32) = refAux (runScores m c) (refTop (runScores m c)).2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2.1.trans rfl, (h c).2.2.2⟩) (run (F := Ideal) m ρ)

/-- The reference's arguments end unchanged, and it has no semaphore to leave raised. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2, sem_eq_zero_of_no_sems (by decide) r.2⟩) (results m ρ)

end Cert.ReferenceIdeal.Value

end
-- ==== Proof.lean ====
/- The five claims: the kernel's frame at both instances, the reference's frame, that the ideal program is the kernel, and
   that kernel and reference return the same three results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Meet
public import Idealize.ShloMosaic.Adequacy
public import Idealize.ShloMosaic.Init

@[expose] public section

noncomputable section

namespace Cert.Proof

open Idealize.ShloMosaic Idealize.SL.Sem Cert.Route

attribute [local instance] Cert.Kernel.Gen.facts Cert.KernelIdeal.Gen.facts Cert.ReferenceIdeal.Gen.facts pre_facts

/-- From finite arguments, kernel and reference return the same weights, the same indices and the same auxiliary loss. -/
theorem same : Cert.algebraic_KernelIdeal_ReferenceIdeal_pre_finite := fun m g m' g' hpre hargs => by
  refine ⟨fun c => Cert.KernelIdeal.Gen.resW m c, fun c => Cert.KernelIdeal.Gen.resI m c, fun c => Cert.KernelIdeal.Gen.resA m c,
    Cert.KernelIdeal.Gen.results m g, ?_⟩
  refine (θ_run Cert.ReferenceIdeal.defs _ _).mono (fun r h c => ?_) (Cert.ReferenceIdeal.Value.results m' g')
  have hs : Cert.ReferenceIdeal.Value.runScores m' c = refScores m c := by
    unfold Cert.ReferenceIdeal.Value.runScores
    rw [(hargs c).1, (hargs c).2]
    rfl
  obtain ⟨h1, h2, h3, h4, h5⟩ := h c
  rw [hs] at h1 h2 h3
  exact ⟨h1.trans (first_eq m c hpre), h2.trans (second_eq m c hpre), h3.trans (third_eq m c hpre), h4, h5⟩

/-- All the claims of the statement. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    fun m g _ => Cert.ReferenceIdeal.Value.frame m g, fun m g _ => Cert.ReferenceIdeal.Value.frame m g, trivial, same⟩

end Cert.Proof

end
